-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S16384x129 : Shape := ⟨2, ![16384, 129]⟩
abbrev S256x9 : Shape := ⟨2, ![256, 9]⟩
abbrev S256x128 : Shape := ⟨2, ![256, 128]⟩
abbrev S256 : Shape := ⟨1, ![256]⟩
abbrev S16384x1 : Shape := ⟨2, ![16384, 1]⟩
abbrev S16384 : Shape := ⟨1, ![16384]⟩
abbrev S1x16384 : Shape := ⟨2, ![1, 16384]⟩
abbrev S16384x16384 : Shape := ⟨2, ![16384, 16384]⟩
abbrev S_ : Shape := ⟨0, ![]⟩
abbrev S256x8 : Shape := ⟨2, ![256, 8]⟩
abbrev S256x1 : Shape := ⟨2, ![256, 1]⟩

class Facts : Prop where
  slices_S16384x129_S16384x1_0_0 : S16384x129.Slices ![0, 0] S16384x1
  shapeCasts_S16384x1_S16384 : S16384x1.ShapeCasts S16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384 : S_.BroadcastsInDim S16384 (![] : Fin 0 → Fin S16384.rank)
  slices_S256x9_S256x8_0_0 : S256x9.Slices ![0, 0] S256x8
  slices_S256x9_S256x1_0_8 : S256x9.Slices ![0, 8] S256x1
  bcast_S256x1_S256x8_0_1 : S256x1.BroadcastsInDim S256x8 (![0, 1] : Fin 2 → Fin S256x8.rank)
  bcast_S_S256x8 : S_.BroadcastsInDim S256x8 (![] : Fin 0 → Fin S256x8.rank)

variable [Facts]

def fn_part1 {F : FTy → Type} [FloatOps F] (main_v12 : IVec S16384 1) (main_v14 : IVec S16384 1) (main_v16 : IVec S16384x16384 1) (main_v20 : FVec F S256x8 .f32) (main_cst : FVec F S_ .f32) : IVec S16384 1 × IVec S16384 1 × IVec S16384x16384 1 × IVec S256x8 1 :=
  let main_v21 : FVec F S256x8 .f32 := broadcastInDim S256x8 ![] bcast_S_S256x8 main_cst
  let main_v22 : IVec S256x8 1 := cmpf .oge main_v20 main_v21
  (main_v12, main_v14, main_v16, main_v22)

def fn {F : FTy → Type} [FloatOps F] (main_arg0 : FVec F S16384x129 .f32) (main_arg1 : FVec F S256x9 .f32) (main_arg2 : FVec F S256x128 .f32) (main_arg3 : FVec F S256 .f32) : IVec S16384 1 × IVec S16384 1 × IVec S16384x16384 1 × IVec S256x8 1 :=
  let main_v0 : FVec F S16384x1 .f32 := (extractStridedSlice S16384x1 ![0, 0] · slices_S16384x129_S16384x1_0_0) main_arg0
  let main_v1 : FVec F S16384 .f32 := shapeCast S16384 main_v0 shapeCasts_S16384x1_S16384
  let main_v2 : IVec S16384 32 := fptosi 32 main_v1
  let main_v3 : IVec S16384x1 32 := broadcastInDim S16384x1 ![0] bcast_S16384_S16384x1_0 main_v2
  let main_v4 : IVec S1x16384 32 := broadcastInDim S1x16384 ![1] bcast_S16384_S1x16384_1 main_v2
  let main_v5 : IVec S16384x16384 32 := broadcastInDim S16384x16384 ![0, 1] bcast_S16384x1_S16384x16384_0_1 main_v3
  let main_v6 : IVec S16384x16384 32 := broadcastInDim S16384x16384 ![0, 1] bcast_S1x16384_S16384x16384_0_1 main_v4
  let main_v7 : IVec S16384x16384 1 := cmpi .eq main_v5 main_v6
  let main_v8 : IVec S16384x16384 32 := iotaInDim S16384x16384 32 0
  let main_v9 : IVec S16384x16384 32 := iotaInDim S16384x16384 32 1
  let main_v10 : IVec S16384x16384 1 := cmpi .eq main_v8 main_v9
  let main_c : IVec S_ 32 := constantI S_ 32 0#32
  let main_v11 : IVec S16384 32 := broadcastInDim S16384 ![] bcast_S_S16384 main_c
  let main_v12 : IVec S16384 1 := cmpi .sge main_v2 main_v11
  let main_c_0 : IVec S_ 32 := constantI S_ 32 100000#32
  let main_v13 : IVec S16384 32 := broadcastInDim S16384 ![] bcast_S_S16384 main_c_0
  let main_v14 : IVec S16384 1 := cmpi .slt main_v2 main_v13
  let main_v15 : IVec S16384x16384 1 := noti main_v7
  let main_v16 : IVec S16384x16384 1 := ori main_v10 main_v15
  let main_v17 : FVec F S256x8 .f32 := (extractStridedSlice S256x8 ![0, 0] · slices_S256x9_S256x8_0_0) main_arg1
  let main_v18 : FVec F S256x1 .f32 := (extractStridedSlice S256x1 ![0, 8] · slices_S256x9_S256x1_0_8) main_arg1
  let main_v19 : FVec F S256x8 .f32 := broadcastInDim S256x8 ![0, 1] bcast_S256x1_S256x8_0_1 main_v18
  let main_v20 : FVec F S256x8 .f32 := addf main_v17 main_v19
  let main_cst : FVec F S_ .f32 := constant S_ .f32 0x00000000#32
  fn_part1 (F := F) main_v12 main_v14 main_v16 main_v20 main_cst
-- ==== Kernel.lean ====
abbrev S16384x129 : Shape := ⟨2, ![16384, 129]⟩
abbrev S256x9 : Shape := ⟨2, ![256, 9]⟩
abbrev S256x128 : Shape := ⟨2, ![256, 128]⟩
abbrev S256 : Shape := ⟨1, ![256]⟩
abbrev S_ : Shape := ⟨0, ![]⟩
abbrev S1x256 : Shape := ⟨2, ![1, 256]⟩
abbrev S128x256 : Shape := ⟨2, ![128, 256]⟩
abbrev S129x256 : Shape := ⟨2, ![129, 256]⟩
abbrev S8192x8 : Shape := ⟨2, ![8192, 8]⟩
abbrev S4096x129 : Shape := ⟨2, ![4096, 129]⟩
abbrev S4096x8 : Shape := ⟨2, ![4096, 8]⟩
abbrev S256x8 : Shape := ⟨2, ![256, 8]⟩
abbrev S256x1 : Shape := ⟨2, ![256, 1]⟩
abbrev S4096x256 : Shape := ⟨2, ![4096, 256]⟩
abbrev S4096 : Shape := ⟨1, ![4096]⟩
abbrev S4096x1 : Shape := ⟨2, ![4096, 1]⟩
abbrev S16384x8 : Shape := ⟨2, ![16384, 8]⟩

abbrev nBuf : Space → Nat
  | .hbm => 12
  | .vmem => 11
  | .smem => 0
  | _ => 0

abbrev bufTy : (tb : Table) → Fin (tcTables nBuf tb) → BufTy
  | .hbm, ⟨0, _⟩ => ⟨S16384x129, .f32⟩
  | .hbm, ⟨1, _⟩ => ⟨S256x9, .f32⟩
  | .hbm, ⟨2, _⟩ => ⟨S256x128, .f32⟩
  | .hbm, ⟨3, _⟩ => ⟨S256, .f32⟩
  | .hbm, ⟨4, _⟩ => ⟨S_, .f32⟩
  | .hbm, ⟨5, _⟩ => ⟨S1x256, .f32⟩
  | .hbm, ⟨6, _⟩ => ⟨S128x256, .f32⟩
  | .hbm, ⟨7, _⟩ => ⟨S129x256, .f32⟩
  | .hbm, ⟨8, _⟩ => ⟨S1x256, .f32⟩
  | .hbm, ⟨9, _⟩ => ⟨S8192x8, .f32⟩
  | .hbm, ⟨10, _⟩ => ⟨S8192x8, .f32⟩
  | .hbm, ⟨11, _⟩ => ⟨S16384x8, .f32⟩
  | .local _ .vmem, ⟨0, _⟩ => ⟨S4096x129, .f32⟩
  | .local _ .vmem, ⟨1, _⟩ => ⟨S4096x129, .f32⟩
  | .local _ .vmem, ⟨2, _⟩ => ⟨S4096x129, .f32⟩
  | .local _ .vmem, ⟨3, _⟩ => ⟨S4096x129, .f32⟩
  | .local _ .vmem, ⟨4, _⟩ => ⟨S129x256, .f32⟩
  | .local _ .vmem, ⟨5, _⟩ => ⟨S1x256, .f32⟩
  | .local _ .vmem, ⟨6, _⟩ => ⟨S256x9, .f32⟩
  | .local _ .vmem, ⟨7, _⟩ => ⟨S4096x8, .f32⟩
  | .local _ .vmem, ⟨8, _⟩ => ⟨S4096x8, .f32⟩
  | .local _ .vmem, ⟨9, _⟩ => ⟨S4096x8, .f32⟩
  | .local _ .vmem, ⟨10, _⟩ => ⟨S4096x8, .f32⟩
  | _, _ => ⟨S16384x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x129 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S129x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x129 : Shape := ⟨2, ![16384, 129]⟩
abbrev S256x9 : Shape := ⟨2, ![256, 9]⟩
abbrev S256x128 : Shape := ⟨2, ![256, 128]⟩
abbrev S256 : Shape := ⟨1, ![256]⟩
abbrev S16384x128 : Shape := ⟨2, ![16384, 128]⟩
abbrev S16384x1 : Shape := ⟨2, ![16384, 1]⟩
abbrev S16384 : Shape := ⟨1, ![16384]⟩
abbrev S128x256 : Shape := ⟨2, ![128, 256]⟩
abbrev S16384x256 : Shape := ⟨2, ![16384, 256]⟩
abbrev S1x256 : Shape := ⟨2, ![1, 256]⟩
abbrev S_ : Shape := ⟨0, ![]⟩
abbrev S100000x256 : Shape := ⟨2, ![100000, 256]⟩
abbrev S1 : Shape := ⟨1, ![1]⟩
abbrev S1x1 : Shape := ⟨2, ![1, 1]⟩
abbrev S256x8 : Shape := ⟨2, ![256, 8]⟩
abbrev S256x1 : Shape := ⟨2, ![256, 1]⟩
abbrev S1x256x8 : Shape := ⟨3, ![1, 256, 8]⟩
abbrev S16384x256x8 : Shape := ⟨3, ![16384, 256, 8]⟩
abbrev S16384x256x1 : Shape := ⟨3, ![16384, 256, 1]⟩
abbrev S16384x8 : Shape := ⟨2, ![16384, 8]⟩
abbrev S16384x1x8 : Shape := ⟨3, ![16384, 1, 8]⟩

abbrev nBuf : Space → Nat
  | .hbm => 98
  | .vmem => 0
  | .smem => 0
  | _ => 0

abbrev bufTy : (tb : Table) → Fin (tcTables nBuf tb) → BufTy
  | .hbm, ⟨0, _⟩ => ⟨S16384x129, .f32⟩
  | .hbm, ⟨1, _⟩ => ⟨S256x9, .f32⟩
  | .hbm, ⟨2, _⟩ => ⟨S256x128, .f32⟩
  | .hbm, ⟨3, _⟩ => ⟨S256, .f32⟩
  | .hbm, ⟨4, _⟩ => ⟨S16384x128, .f32⟩
  | .hbm, ⟨5, _⟩ => ⟨S16384x1, .f32⟩
  | .hbm, ⟨6, _⟩ => ⟨S16384, .f32⟩
  | .hbm, ⟨7, _⟩ => ⟨S16384, .i32⟩
  | .hbm, ⟨8, _⟩ => ⟨S128x256, .f32⟩
  | .hbm, ⟨9, _⟩ => ⟨S16384x256, .f32⟩
  | .hbm, ⟨10, _⟩ => ⟨S1x256, .f32⟩
  | .hbm, ⟨11, _⟩ => ⟨S16384x256, .f32⟩
  | .hbm, ⟨12, _⟩ => ⟨S16384x256, .f32⟩
  | .hbm, ⟨13, _⟩ => ⟨S_, .f32⟩
  | .hbm, ⟨14, _⟩ => ⟨S16384x256, .f32⟩
  | .hbm, ⟨15, _⟩ => ⟨S16384x256, .i1⟩
  | .hbm, ⟨16, _⟩ => ⟨S_, .i1⟩
  | .hbm, ⟨17, _⟩ => ⟨S100000x256, .i1⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S100000x256, .i1⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x256, .i1⟩
  | .hbm, ⟨46, _⟩ => ⟨S16384x256, .i1⟩
  | .hbm, ⟨47, _⟩ => ⟨S_, .i1⟩
  | .hbm, ⟨48, _⟩ => ⟨S16384x256, .i1⟩
  | .hbm, ⟨49, _⟩ => ⟨S16384x256, .i1⟩
  | .hbm, ⟨50, _⟩ => ⟨S256x8, .f32⟩
  | .hbm, ⟨51, _⟩ => ⟨S256x1, .f32⟩
  | .hbm, ⟨52, _⟩ => ⟨S256x8, .f32⟩
  | .hbm, ⟨53, _⟩ => ⟨S256x8, .f32⟩
  | .hbm, ⟨54, _⟩ => ⟨S1x256x8, .f32⟩
  | .hbm, ⟨55, _⟩ => ⟨S16384x256x8, .f32⟩
  | .hbm, ⟨56, _⟩ => ⟨S16384x256x1, .i1⟩
  | .hbm, ⟨57, _⟩ => ⟨S_, .f32⟩
  | .hbm, ⟨58, _⟩ => ⟨S16384x256x8, .i1⟩
  | .hbm, ⟨59, _⟩ => ⟨S16384x256x8, .f32⟩
  | .hbm, ⟨60, _⟩ => ⟨S16384x256x8, .f32⟩
  | .hbm, ⟨61, _⟩ => ⟨S_, .f32⟩
  | .hbm, ⟨62, _⟩ => ⟨S16384x8, .f32⟩
  | .hbm, ⟨63, _⟩ => ⟨S_, .i32⟩
  | .hbm, ⟨64, _⟩ => ⟨S_, .i32⟩
  | .hbm, ⟨65, _⟩ => ⟨S16384x256x8, .f32⟩
  | .hbm, ⟨66, _⟩ => ⟨S_, .i32⟩
  | .hbm, ⟨67, _⟩ => ⟨S_, .i32⟩
  | .hbm, ⟨68, _⟩ => ⟨S16384x8, .f32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S16384x1x8, .f32⟩
  | .hbm, ⟨82, _⟩ => ⟨S16384x8, .f32⟩
  | .hbm, ⟨83, _⟩ => ⟨S16384x8, .f32⟩
  | .hbm, ⟨84, _⟩ => ⟨S_, .i32⟩
  | .hbm, ⟨85, _⟩ => ⟨S_, .i32⟩
  | .hbm, ⟨86, _⟩ => ⟨S_, .f32⟩
  | .hbm, ⟨87, _⟩ => ⟨S16384x8, .f32⟩
  | .hbm, ⟨88, _⟩ => ⟨S16384x8, .i1⟩
  | .hbm, ⟨89, _⟩ => ⟨S_, .f32⟩
  | .hbm, ⟨90, _⟩ => ⟨S16384x8, .f32⟩
  | .hbm, ⟨91, _⟩ => ⟨S16384x8, .f32⟩
  | .hbm, ⟨92, _⟩ => ⟨S16384x8, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S16384x8, .f32⟩
  | .hbm, ⟨97, _⟩ => ⟨S16384x8, .f32⟩
  | _, _ => ⟨S16384x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_c_4 : Ref sig .tc := ⟨.hbm, 47, rfl⟩
abbrev main_call0_v15 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_2 : Ref sig .tc := ⟨.hbm, 57, rfl⟩
abbrev main_call1_v0 : Ref sig .tc := ⟨.hbm, 58, rfl⟩
abbrev main_call1_v1 : Ref sig .tc := ⟨.hbm, 59, rfl⟩
abbrev main_v27 : Ref sig .tc := ⟨.hbm, 60, rfl⟩
abbrev main_cst_3 : Ref sig .tc := ⟨.hbm, 61, rfl⟩
abbrev main_v28 : Ref sig .tc := ⟨.hbm, 62, rfl⟩
abbrev main_c_4 : Ref sig .tc := ⟨.hbm, 63, rfl⟩
abbrev main_c_5 : Ref sig .tc := ⟨.hbm, 64, rfl⟩
abbrev main_v29_0 : Ref sig .tc := ⟨.hbm, 65, rfl⟩
abbrev main_v29_1 : Ref sig .tc := ⟨.hbm, 66, rfl⟩
abbrev main_v29_2 : Ref sig .tc := ⟨.hbm, 67, rfl⟩
abbrev main_v29_3 : Ref sig .tc := ⟨.hbm, 68, rfl⟩
abbrev main_while0c_c_12 : Ref sig .tc := ⟨.hbm, 69, rfl⟩
abbrev main_while0c_v39 : Ref sig .tc := ⟨.hbm, 70, rfl⟩
abbrev main_while0b_c_12 : Ref sig .tc := ⟨.hbm, 71, rfl⟩
abbrev main_while0b_v39 : Ref sig .tc := ⟨.hbm, 72, rfl⟩
abbrev main_while0b_call2_c : Ref sig .tc := ⟨.hbm, 73, rfl⟩
abbrev main_while0b_call2_v0 : Ref sig .tc := ⟨.hbm, 74, rfl⟩
abbrev main_while0b_call2_v1 : Ref sig .tc := ⟨.hbm, 75, rfl⟩
abbrev main_while0b_call2_c_0 : Ref sig .tc := ⟨.hbm, 76, rfl⟩
abbrev main_while0b_call2_v2 : Ref sig .tc := ⟨.hbm, 77, rfl⟩
abbrev main_while0b_call2_v3 : Ref sig .tc := ⟨.hbm, 78, rfl⟩
abbrev main_while0b_call2_c_1 : Ref sig .tc := ⟨.hbm, 79, rfl⟩
abbrev main_while0b_call2_c_2 : Ref sig .tc := ⟨.hbm, 80, rfl⟩
abbrev main_while0b_call2_v4 : Ref sig .tc := ⟨.hbm, 81, rfl⟩
abbrev main_while0b_v40 : Ref sig .tc := ⟨.hbm, 82, rfl⟩
abbrev main_while0b_v41 : Ref sig .tc := ⟨.hbm, 83, rfl⟩
abbrev main_while0b_c_13 : Ref sig .tc := ⟨.hbm, 84, rfl⟩
abbrev main_while0b_v42 : Ref sig .tc := ⟨.hbm, 85, rfl⟩
abbrev main_cst_6 : Ref sig .tc := ⟨.hbm, 86, rfl⟩
abbrev main_v30 : Ref sig .tc := ⟨.hbm, 87, rfl⟩
abbrev main_v31 : Ref sig .tc := ⟨.hbm, 88, rfl⟩
abbrev main_cst_7 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_cst_8 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩

abbrev nD : Nat := 1
abbrev τ : Topo := Topo.v7x

variable {F : FTy → Type} [FloatOps F]

abbrev main_while0_count : Scf.Loop 32 := ⟨0#32, 256#32, 1#32⟩
-- ==== Proof.RuleProduct.lean ====
/-
  The arithmetic of the rule product on the extended reals. The kernel multiplies the masses of the rules that apply to a
  row by adding logarithms: `exp (∑ j, a j * log (q j))` with `a j` one where rule `j` applies and zero where it does not.
  The reference multiplies, with the factor 1 for a rule that does not apply. For masses `q j ≥ 0` the two are one number:
  `exp_sum_log`. Nothing here names a program.
-/
module

public import Idealize.ShloMosaic.PureOps.Ideal
public import Idealize.ShloMosaic.PureOps.Ideal.Laws
public import Mathlib.Analysis.SpecialFunctions.Log.Basic

@[expose] public section

noncomputable section

namespace Cert.RuleProduct

open Idealize.ShloMosaic

/-- `exp` of the real number `r` is the real exponential. -/
theorem exp_coe (r : ℝ) : Ideal.exp (r : EReal) = ((Real.exp r : ℝ) : EReal) := rfl

/-- `exp 0 = 1`. -/
theorem exp_zero : Ideal.exp 0 = 1 := by
  rw [← EReal.coe_zero, exp_coe, Real.exp_zero, EReal.coe_one]

/-- `exp` turns sums into products on ALL extended reals: where one summand is `-∞` the sum is `-∞` and the product has the
    factor 0; where one is `+∞` and the other real, the product is `+∞` times a positive real. -/
theorem exp_add (x y : EReal) : Ideal.exp (x + y) = Ideal.exp x * Ideal.exp y := by
  have hb : Ideal.exp ⊥ = 0 := rfl
  have ht : Ideal.exp ⊤ = ⊤ := rfl
  induction x with
  | bot => rw [EReal.bot_add, hb, zero_mul]
  | top =>
    induction y with
    | bot => rw [EReal.add_bot, hb, mul_zero]
    | top => rw [EReal.top_add_top, ht, EReal.top_mul_top]
    | coe s => rw [EReal.top_add_coe, ht, exp_coe, EReal.top_mul_coe_of_pos (Real.exp_pos s)]
  | coe r =>
    induction y with
    | bot => rw [EReal.add_bot, hb, mul_zero]
    | top => rw [EReal.coe_add_top, ht, exp_coe, EReal.coe_mul_top_of_pos (Real.exp_pos r)]
    | coe s => rw [← EReal.coe_add, exp_coe, exp_coe, exp_coe, Real.exp_add, EReal.coe_mul]

/-- `exp (log q) = q` for every `q ≥ 0`, `0` and `+∞` included. -/
theorem exp_log (q : EReal) (hq : 0 ≤ q) : Ideal.exp (Ideal.log q) = q := by
  induction q with
  | bot => exact absurd hq (by simp)
  | top => rfl
  | coe r =>
    have hr : 0 ≤ r := EReal.coe_nonneg.1 hq
    show Ideal.exp (if r ≤ 0 then ⊥ else ((Real.log r : ℝ) : EReal)) = r
    split
    · next h => rw [le_antisymm h hr]; rfl
    · next h => rw [exp_coe, Real.exp_log (not_le.1 h)]

/-- One rule's term: its weight one or zero times its mass's logarithm, exponentiated, is the mass or 1. -/
theorem exp_weight_log (p : Prop) [Decidable p] (q : EReal) (hq : 0 ≤ q) :
    Ideal.exp ((if p then 1 else 0) * Ideal.log q) = if p then q else 1 := by
  split
  · rw [one_mul, exp_log q hq]
  · rw [zero_mul, exp_zero]

/-- `exp` of a finite sum is the product of the exponentials. -/
theorem exp_sum {ι : Type} (s : Finset ι) (f : ι → EReal) : Ideal.exp (∑ j ∈ s, f j) = ∏ j ∈ s, Ideal.exp (f j) := by
  classical
  induction s using Finset.induction_on with
  | empty => rw [Finset.sum_empty, Finset.prod_empty, exp_zero]
  | insert a s ha ih => rw [Finset.sum_insert ha, Finset.prod_insert ha, exp_add, ih]

/-- The rule product by logarithms is the rule product. -/
theorem exp_sum_log {ι : Type} [Fintype ι] (p : ι → Prop) [DecidablePred p] (q : ι → EReal) (hq : ∀ j, 0 ≤ q j) :
    Ideal.exp (∑ j, (if p j then 1 else 0) * Ideal.log (q j)) = ∏ j, if p j then q j else 1 := by
  rw [exp_sum]
  exact Finset.prod_congr rfl fun j _ => exp_weight_log (p j) (q j) (hq j)

/-- The product over `Fin n` as a loop multiplies it out, one factor a trip from 1 on. -/
theorem loop_prod {n : ℕ} (f : Fin n → EReal) (g : ℕ → EReal) (h0 : g 0 = 1) (hs : ∀ k : Fin n, g (k + 1) = g k * f k) :
    g n = ∏ k, f k := by
  induction n with
  | zero => rw [h0, Fin.prod_univ_zero]
  | succ n ih =>
    rw [Fin.prod_univ_castSucc, ← ih (fun k => f k.castSucc) fun k => hs k.castSucc]
    exact hs (Fin.last n)

end Cert.RuleProduct

end
-- ==== Proof.Shares.lean ====
/-
  The closed form both programs meet, index by index: a row's scores, its rules' product in each class, and the row's
  shares. Nothing here names a program.
-/
module

public import proofs.«01_k».proof.Proof.RuleProduct
public import Idealize.ShloMosaic.Lib.Affine

@[expose] public section

noncomputable section

namespace Cert.Shares

open Idealize.ShloMosaic

/-- The number the programs add to a class product that does not exceed it: the f32 whose word is `0x24E69595`. -/
def tiny : EReal := Ideal.ofBits FTy.f32 619091349#32

/-- A class product, with `tiny` added where it does not exceed `tiny`. -/
def lift (t : EReal) : EReal := if t ≤ tiny then t + tiny else t

/-- Class `k`'s share of a row of class products. -/
def share (T : Fin 8 → EReal) (k : Fin 8) : EReal := Ideal.div (lift (T k)) (∑ k', lift (T k'))

/-- The product over the 256 rules of the masses `q j` of those with a positive score. -/
def evidence (score q : Fin 256 → EReal) : EReal := ∏ j, if 0 < score j then q j else 1

/-- Rows with the same class products have the same shares. -/
theorem share_congr {T T' : Fin 8 → EReal} (h : ∀ k, T k = T' k) (k : Fin 8) : share T k = share T' k := by
  rw [funext h]

/-- A truth value widened to a word and converted is one or zero. -/
theorem sitofp_decide (p : Prop) [Decidable p] :
    (FloatOps.sitofp FTy.f32 (BitVec.setWidth 32 (BitVec.ofBool (decide p))) : Ideal FTy.f32) = if p then (1 : EReal) else 0 := by
  show (((BitVec.setWidth 32 (BitVec.ofBool (decide p))).toInt : ℝ) : EReal) = _
  by_cases h : p
  · rw [if_pos h, decide_eq_true h, (by decide : (BitVec.setWidth 32 (BitVec.ofBool true)).toInt = 1), Int.cast_one, EReal.coe_one]
  · rw [if_neg h, decide_eq_false h, (by decide : (BitVec.setWidth 32 (BitVec.ofBool false)).toInt = 0), Int.cast_zero, EReal.coe_zero]

/-- The product by logarithms, over masses that are not negative, is the product. -/
theorem exp_evidence (score q : Fin 256 → EReal) (hq : ∀ j, 0 ≤ q j) :
    Ideal.exp (∑ j, (if 0 < score j then (1 : EReal) else 0) * Ideal.log (q j)) = evidence score q :=
  RuleProduct.exp_sum_log (fun j => 0 < score j) q hq

end Cert.Shares

end
-- ==== Proof.KernelBody.lean ====
/-
  What the kernel's body computes of its blocks, at an index. `k0_pay6` is the words that tell which rules apply to a row,
  `k0_pay5` the first output block from the first block of rows, `k0_pay1` the second output block from those words.
-/
module

public import proofs.«01_k».proof.Defs
public import proofs.«01_k».proof.Proof.Gen.KernelIdeal.Frame
public import proofs.«01_k».proof.Proof.Shares
public import Idealize.ShloMosaic.Lib.Pointwise

@[expose] public section

noncomputable section

namespace Cert.KernelIdeal.Body

open Cert.KernelIdeal Cert.KernelIdeal.Gen Idealize.ShloMosaic Idealize.SL.Sem Cert.Shares

/-- The score of rule `j` on row `r` of a block: the row against column `j` of the weights, plus the rule's offset. -/
def score (X : Vec Ideal S4096x129 .f32) (w : Vec Ideal S129x256 .f32) (b : Vec Ideal S1x256 .f32) (r : Fin 4096) (j : Fin 256) : EReal :=
  (∑ d : Fin 129, X (ix2 r d) * w (ix2 d j)) + b (ix2 0 j)

/-- Row `r`'s product in class `k`, by logarithms of the masses `q`. -/
def product (X : Vec Ideal S4096x129 .f32) (w : Vec Ideal S129x256 .f32) (b : Vec Ideal S1x256 .f32) (q : Fin 256 → Fin 8 → EReal)
    (r : Fin 4096) (k : Fin 8) : EReal :=
  Ideal.exp (∑ j, (if 0 < score X w b r j then (1 : EReal) else 0) * Ideal.log (q j k))

/-- The first output block at row `r` and class `k`. -/
theorem first_block (w : Vec Ideal S129x256 .f32) (b : Vec Ideal S1x256 .f32) (q : Vec Ideal S256x8 .f32) (q' : Vec Ideal S256x1 .f32)
    (X : Vec Ideal S4096x129 .f32) (r : Fin 4096) (k : Fin 8) :
    k0_pay5 w b q q' X (ix2 r k) = share (product X w b (fun j k => q (ix2 j k) + q' (ix2 j 0)) r) k := by
  pointwise [k0_pay5, k0_pay2, k0_pay3, k0_pay4]
  simp only [sitofp_decide]
  rfl

/-- The second output block at row `r` and class `k`. -/
theorem second_block (w : Vec Ideal S129x256 .f32) (b : Vec Ideal S1x256 .f32) (q : Vec Ideal S256x8 .f32) (q' : Vec Ideal S256x1 .f32)
    (X : Vec Ideal S4096x129 .f32) (r : Fin 4096) (k : Fin 8) :
    k0_pay1 (k0_pay4 q q') (k0_pay6 w b X) (ix2 r k) = share (product X w b (fun j k => q (ix2 j k) + q' (ix2 j 0)) r) k := by
  pointwise [k0_pay1, k0_pay6, k0_pay2, k0_pay3, k0_pay4]
  simp only [sitofp_decide]
  rfl

end Cert.KernelIdeal.Body

end
-- ==== Proof.KernelValue.lean ====
/-
  The kernel's result array as one function of the four arguments. The launch fills two arrays of 8192 rows, a block of
  4096 rows of each at a grid point, and the program's last line puts one on the other; row `i` of what results is made of
  row `i` of the inputs in either half. The weights reach the launch transposed, under a row of zeros that meets the
  inputs' first column: that column counts nothing.
-/
module

public import proofs.«01_k».proof.Proof.KernelBody
public import Idealize.ShloMosaic.Lib.Pipeline.ValueKit
public import Idealize.ShloMosaic.Lib.StableHlo.ReadAt

@[expose] public section

set_option maxRecDepth 16384

noncomputable section

namespace Cert.KernelIdeal.Result

open Cert.KernelIdeal Cert.KernelIdeal.Gen Idealize.ShloMosaic Idealize.ShloMosaic.TcCoe Idealize.SL.Sem Cert.Shares Cert.KernelIdeal.Body

variable (m : (ℓ : Loc nD τ sig) → Buf (Elt Ideal) ℓ) (c : Dev nD)

/-- The inputs, one row per example. -/
abbrev inputs : Vec Ideal S16384x129 .f32 := m ((c : Thread nD τ).loc main_arg0)
/-- The masses, one row per rule: eight classes and the uncertainty. -/
abbrev masses : Vec Ideal S256x9 .f32 := m ((c : Thread nD τ).loc main_arg1)
/-- The rules' weights. -/
abbrev weights : Vec Ideal S256x128 .f32 := m ((c : Thread nD τ).loc main_arg2)
/-- The rules' offsets. -/
abbrev offsets : Vec Ideal S256 .f32 := m ((c : Thread nD τ).loc main_arg3)

/-- The score of rule `j` on example `i`: the example's features, its first column left out, against the rule's weights,
    plus the rule's offset. -/
def rule (i : Fin 16384) (j : Fin 256) : EReal :=
  (∑ d : Fin 128, inputs m c (ix2 i d.succ) * weights m c (ix2 j d)) + offsets m c (ix1 j)

/-- A rule's mass for a class, the uncertainty added. -/
def mass (j : Fin 256) (k : Fin 8) : EReal :=
  masses m c (ix2 j (k.castLE (by decide))) + masses m c (ix2 j 8)

/-- The share of class `k` for example `i`, the rule products by logarithms. -/
def value (i : Fin 16384) (k : Fin 8) : EReal :=
  share (fun k' => Ideal.exp (∑ j, (if 0 < rule m c i j then (1 : EReal) else 0) * Ideal.log (mass m c j k'))) k

/-- The launch's weights operand below its first row is the transposed weights. -/
theorem operand_succ (d : Fin 128) (j : Fin 256) : V m c main_v2 (ix2 d.succ j) = weights m c (ix2 j d) := by
  unfold V V0
  simp only [hostOps0, List.flatten_cons, List.flatten_nil, List.append_nil]
  after_reads_at
  rw [dif_neg (by simp)]
  rfl

/-- Its first row is zero. -/
theorem operand_zero (j : Fin 256) : V m c main_v2 (ix2 0 j) = (0 : EReal) := by
  unfold V V0
  simp only [hostOps0, List.flatten_cons, List.flatten_nil, List.append_nil]
  after_reads_at

/-- The launch's offsets operand. -/
theorem operand_offset (j : Fin 256) : V m c main_v3 (ix2 0 j) = offsets m c (ix1 j) := by
  unfold V V0
  simp only [hostOps0, List.flatten_cons, List.flatten_nil, List.append_nil]
  after_reads_at

/-- The blocks of the seven windows at point `t`, by their indices in units of a block. -/
theorem idx : ∀ t : Fin cfg0.N, win0_0.index t = ![t.val, 0] ∧ win0_1.index t = ![t.val + 2, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, win0_0.index t = ![t.val, 0] ∧ win0_1.index t = ![t.val + 2, 0] ∧ win0_2.index t = ![0, 0]
    ∧ win0_3.index t = ![0, 0] ∧ win0_4.index t = ![0, 0] ∧ win0_5.index t = ![t.val, 0] ∧ win0_6.index t = ![t.val, 0])

/-- There are two points. -/
theorem point_lt (t : Fin cfg0.N) : t.val < 2 := t.isLt

/-- The first block of inputs at point `t` starts at row `4096 t`. -/
theorem block_first (t : Fin cfg0.N) (r : Fin 4096) (d : Fin 129) (i : Fin 16384) (hi : i.val = t.val * 4096 + r.val) :
    iblk m c 0 t (ix2 r d) = inputs m c (ix2 i d) := by
  blk_ext [iblk, V_main_arg0, idx t]

/-- The second block of inputs at point `t` starts at row `4096 t + 8192`. -/
theorem block_second (t : Fin cfg0.N) (r : Fin 4096) (d : Fin 129) (i : Fin 16384) (hi : i.val = t.val * 4096 + 8192 + r.val) :
    iblk m c 1 t (ix2 r d) = inputs m c (ix2 i d) := by
  blk_ext [iblk, V_main_arg0, idx t]

/-- The weights' block is the whole operand, at every point. -/
theorem block_weights (t : Fin cfg0.N) (d : Fin 129) (j : Fin 256) : iblk m c 2 t (ix2 d j) = V m c main_v2 (ix2 d j) := by
  blk_ext [iblk, idx t]

/-- The offsets' block is the whole operand, at every point. -/
theorem block_offsets (t : Fin cfg0.N) (j : Fin 256) : iblk m c 3 t (ix2 0 j) = V m c main_v3 (ix2 0 j) := by
  blk_ext [iblk, idx t]

/-- The masses' block is the whole argument, at every point. -/
theorem block_masses (t : Fin cfg0.N) (j : Fin 256) (k : Fin 9) : iblk m c 4 t (ix2 j k) = masses m c (ix2 j k) := by
  blk_ext [iblk, V_main_arg1, idx t]

/-- What the body loads of it: the first eight columns, … -/
theorem load_masses (t : Fin cfg0.N) (j : Fin 256) (k : Fin 8) :
    View.ld (iblk m c 4 t) r0_2 (ix2 j k) = masses m c (ix2 j (k.castLE (by decide))) :=
  (View.ld_unit_apply_of (iblk m c 4 t) _ _ _ _ (ix2 j (k.castLE (by decide)) : S256x9.Idx)
    (fun a => by fin_cases a <;> simp)).trans (block_masses m c t j _)

/-- … and the last. -/
theorem load_uncertainty (t : Fin cfg0.N) (j : Fin 256) :
    View.ld (iblk m c 4 t) r0_3 (ix2 j 0) = masses m c (ix2 j 8) :=
  (View.ld_unit_apply_of (iblk m c 4 t) _ _ _ _ (ix2 j 8 : S256x9.Idx)
    (fun a => by fin_cases a <;> simp)).trans (block_masses m c t j _)

/-- A rule's score in a block: row `r` of a block that holds row `i` of the inputs. -/
theorem score_block (t : Fin cfg0.N) (X : Vec Ideal S4096x129 .f32) (r : Fin 4096) (i : Fin 16384)
    (hX : ∀ d : Fin 129, X (ix2 r d) = inputs m c (ix2 i d)) (j : Fin 256) :
    score X (iblk m c 2 t) (iblk m c 3 t) r j = rule m c i j := by
  unfold score rule
  rw [Fin.sum_univ_succ, block_weights, operand_zero, mul_zero, zero_add, block_offsets, operand_offset]
  exact congrArg₂ (· + ·) (Finset.sum_congr rfl fun d _ => by rw [hX, block_weights, operand_succ]) rfl

/-- The shares in a block: row `r` of a block that holds row `i` of the inputs. -/
theorem share_block (t : Fin cfg0.N) (X : Vec Ideal S4096x129 .f32) (r : Fin 4096) (i : Fin 16384)
    (hX : ∀ d : Fin 129, X (ix2 r d) = inputs m c (ix2 i d)) (q : Vec Ideal S256x8 .f32) (q' : Vec Ideal S256x1 .f32)
    (hq : q = View.ld (iblk m c 4 t) r0_2) (hq' : q' = View.ld (iblk m c 4 t) r0_3) (k : Fin 8) :
    share (product X (iblk m c 2 t) (iblk m c 3 t) (fun j k => q (ix2 j k) + q' (ix2 j 0)) r) k = value m c i k := by
  subst hq hq'
  refine share_congr (fun k' => ?_) k
  unfold product
  refine congrArg Ideal.exp (Finset.sum_congr rfl fun j _ => ?_)
  rw [score_block m c t X r i hX j]
  exact congrArg (_ * Ideal.log ·) (congrArg₂ (fun x y : EReal => x + y) (load_masses m c t j k') (load_uncertainty m c t j))

/-- The first output array after the launch: rows 0 … 8191. -/
theorem first_array : (dats m 0 c).arrAt 5 (cfgs 0).N
    = (fun y => value m c ((y 0).castLE (by decide)) (y 1) : Vec Ideal S8192x8 .f32) := by
  refine (dats m 0 c).arrAt_eq_of_covers 5 _ (by decide +kernel) fun t hf y => ?_
  blk_simp
  rw [after0_5]
  frame_out
  idx_vars y
  have ht := point_lt t
  refine (first_block _ _ _ _ _ _ _).trans ((share_block m c t _ y0 ⟨t.val * 4096 + y0.val, by omega⟩
    (fun d => block_first m c t y0 d _ rfl) _ _ rfl rfl y1).trans (congrArg₂ (value m c) (Fin.ext ?_) (Fin.ext ?_)))
  · show _ = ((((cfg0.win 5).blk t).view.emb (ix2 y0 y1)) 0 : ℕ)
    blk_simp [idx t]
  · show _ = ((((cfg0.win 5).blk t).view.emb (ix2 y0 y1)) 1 : ℕ)
    blk_simp [idx t]

/-- The second output array after the launch: rows 8192 … 16383. -/
theorem second_array : (dats m 0 c).arrAt 6 (cfgs 0).N
    = (fun y => value m c ((y 0).natAdd 8192) (y 1) : Vec Ideal S8192x8 .f32) := by
  refine (dats m 0 c).arrAt_eq_of_covers 6 _ (by decide +kernel) fun t hf y => ?_
  blk_simp
  rw [after0_6]
  frame_out
  idx_vars y
  have ht := point_lt t
  refine (second_block _ _ _ _ _ _ _).trans ((share_block m c t _ y0 ⟨t.val * 4096 + 8192 + y0.val, by omega⟩
    (fun d => block_second m c t y0 d _ rfl) _ _ rfl rfl y1).trans (congrArg₂ (value m c) (Fin.ext ?_) (Fin.ext ?_)))
  · show _ = 8192 + ((((cfg0.win 6).blk t).view.emb (ix2 y0 y1)) 0 : ℕ)
    blk_simp [idx t]
    show t.val * 4096 + 8192 + y0.val = 8192 + (t.val * 4096 + y0.val)
    omega
  · show _ = ((((cfg0.win 6).blk t).view.emb (ix2 y0 y1)) 1 : ℕ)
    blk_simp [idx t]

/-- What the program's last line leaves in the result: the two arrays, one on the other. -/
theorem result_array : Pipeline.afterTail₀ cfgs (dats m) 0 (V0 m) [hostOps1] c main_v5
    = (fun y => value m c (y 0) (y 1) : Vec Ideal S16384x8 .f32) := by
  have h5 : Pipeline.withArrays (cfgs 0).spec c (V0 m c) (fun w => (dats m 0 c).arrAt w (cfgs 0).N) (Proc.devRef .tc main_v4_0)
      = (fun y => value m c ((y 0).castLE (by decide)) (y 1) : Vec Ideal S8192x8 .f32) :=
    (Pipeline.Dat.withArrays_arrAt (dats m 0 c) (by decide) (V0 m c) (A_eq m c) 5).trans (first_array m c)
  have h6 : Pipeline.withArrays (cfgs 0).spec c (V0 m c) (fun w => (dats m 0 c).arrAt w (cfgs 0).N) (Proc.devRef .tc main_v4_1)
      = (fun y => value m c ((y 0).natAdd 8192) (y 1) : Vec Ideal S8192x8 .f32) :=
    (Pipeline.Dat.withArrays_arrAt (dats m 0 c) (by decide) (V0 m c) (A_eq m c) 6).trans (second_array m c)
  unfold Pipeline.afterTail₀
  generalize Pipeline.withArrays (cfgs 0).spec c (V0 m c) (fun w => (dats m 0 c).arrAt w (cfgs 0).N) = A at h5 h6
  funext y
  simp only [hostOps1, List.flatten_cons, List.flatten_nil, List.append_nil]
  idx_vars y
  after_reads_at
  split
  · exact congrFun h5 _
  · next h =>
    exact (congrFun h6 _).trans (congrArg (value m c · y1) (Fin.ext (by show 8192 + (y0.val - 8192) = y0.val; omega)))

/-- The kernel's run: on every device it leaves the shares in its result and the four arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v5) = (fun y => value m c (y 0) (y 1) : Vec Ideal S16384x8 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v5 (Pipeline.mem_restRefs_of main_v5 (by decide) (by decide))).trans (result_array m c), h.2 c⟩)
    (θ_run_and (run_main m ρ) (unchanged m ρ))

end Cert.KernelIdeal.Result

end
-- ==== Proof.ReferenceLoop.lean ====
/-
  The reference's loop and the lines after it, at an index. The loop multiplies the 256 slices of its first carried array
  together; the lines after it make the shares of the product.
-/
module

public import proofs.«01_k».proof.Defs
public import proofs.«01_k».proof.Proof.Gen.ReferenceIdeal.Run
public import proofs.«01_k».proof.Proof.Shares
public import Idealize.ShloMosaic.Lib.Pointwise
public import Idealize.ShloMosaic.Lib.DynamicIndex
public import Idealize.ShloMosaic.Lib.StableHlo.ReadAt

@[expose] public section

set_option maxRecDepth 16384

noncomputable section

namespace Cert.ReferenceIdeal.Loop

open Cert.ReferenceIdeal Cert.ReferenceIdeal.Value Idealize.ShloMosaic Idealize.SL.Sem Cert.Shares

/-- The factors the loop multiplies. -/
abbrev factors (V : Valuation τ sig (Elt Ideal)) : Vec Ideal S16384x256x8 .f32 := V (Proc.devRef .tc main_v29_0)
/-- The rule the next trip takes. -/
abbrev counter (V : Valuation τ sig (Elt Ideal)) : IVec S_ 32 := V (Proc.devRef .tc main_v29_2)
/-- The product so far. -/
abbrev soFar (V : Valuation τ sig (Elt Ideal)) : Vec Ideal S16384x8 .f32 := V (Proc.devRef .tc main_v29_3)

/-- The result: the shares of the product the loop leaves. -/
theorem out_at (V : Valuation τ sig (Elt Ideal)) (i : Fin 16384) (k : Fin 8) :
    out_main_v38 V (ix2 i k) = share (fun k' => soFar V (ix2 i k')) k := by
  unfold out_main_v38
  clean_types
  pointwise
  rfl

/-- The slice at rule `j` lies inside the factors. -/
theorem slice_fits (j : Fin 256) : S16384x256x8.Slices ![0, j.val, 0] S16384x1x8 :=
  ⟨rfl, fun a => by fin_cases a <;> simp <;> omega⟩

/-- One trip at rule `j`: the product gains the factor `j`. -/
theorem step_at (V : Valuation τ sig (Elt Ideal)) (j : Fin 256) (hj : counter V = constantI S_ 32 (BitVec.ofNat 32 j.val)) (i : Fin 16384) (k : Fin 8) :
    step_main_v29_3 V (ix2 i k) = soFar V (ix2 i k) * factors V (ix3 i j k) := by
  unfold step_main_v29_3
  rw [id_eq, id_eq, show V (Proc.devRef .tc main_v29_2) = _ from hj,
    Host.dynamicSlice_eq_extractStridedSlice _ _ _ ![0, j.val, 0] _ (slice_fits j) (by
      intro a
      fin_cases a
      · rfl
      · exact toInt_wrap_ofNat j.val (by omega)
      · rfl)]
  clean_types
  pointwise

/-- One trip counts one rule. -/
theorem counter_at (V : Valuation τ sig (Elt Ideal)) (n : ℕ) (hn : counter V = constantI S_ 32 (BitVec.ofNat 32 n)) :
    step_main_v29_2 V = constantI S_ 32 (BitVec.ofNat 32 (n + 1)) := by
  unfold step_main_v29_2
  rw [id_eq, show V (Proc.devRef .tc main_v29_2) = _ from hn]
  funext x
  exact (BitVec.ofNat_add n 1).symm

/-- After `n` trips the factors are as they were and the counter is at rule `n`. -/
theorem iterate_factors (V : Valuation τ sig (Elt Ideal)) (n : ℕ) : factors (STEP^[n] V) = factors V := by
  induction n with
  | zero => rfl
  | succ n ih => rw [Function.iterate_succ_apply']; exact (STEP_main_v29_0 _).trans ih

/-- After `n` trips the counter, from 0, is at rule `n`. -/
theorem iterate_counter (V : Valuation τ sig (Elt Ideal)) (h : counter V = constantI S_ 32 (BitVec.ofNat 32 0)) (n : ℕ) :
    counter (STEP^[n] V) = constantI S_ 32 (BitVec.ofNat 32 n) := by
  induction n with
  | zero => exact h
  | succ n ih => rw [Function.iterate_succ_apply']; exact (STEP_main_v29_2 _).trans (counter_at _ n ih)

/-- The loop leaves the product of the 256 factors, from 1. -/
theorem loop_at (V : Valuation τ sig (Elt Ideal)) (h : counter V = constantI S_ 32 (BitVec.ofNat 32 0)) (i : Fin 16384) (k : Fin 8)
    (h1 : soFar V (ix2 i k) = (1 : EReal)) : soFar (STEP^[256] V) (ix2 i k) = ∏ j : Fin 256, (factors V (ix3 i j k) : EReal) := by
  refine RuleProduct.loop_prod (fun j : Fin 256 => (factors V (ix3 i j k) : EReal)) (fun n => soFar (STEP^[n] V) (ix2 i k)) h1 fun j => ?_
  show soFar (STEP^[j.val + 1] V) (ix2 i k) = _
  rw [Function.iterate_succ_apply', ← iterate_factors V j.val]
  exact (congrFun (STEP_main_v29_3 _) (ix2 i k)).trans (step_at _ j (iterate_counter V h j.val) i k)

/-- The result after the loop: the shares of the products of the factors. -/
theorem result_at (V : Valuation τ sig (Elt Ideal)) (h : counter V = constantI S_ 32 (BitVec.ofNat 32 0))
    (h1 : ∀ i k, soFar V (ix2 i k) = (1 : EReal)) (i : Fin 16384) (k : Fin 8) :
    out_main_v38 (STEP^[256] V) (ix2 i k) = share (fun k' => ∏ j : Fin 256, (factors V (ix3 i j k') : EReal)) k :=
  (out_at _ i k).trans (share_congr (fun k' => loop_at V h i k' (h1 i k')) k)

end Cert.ReferenceIdeal.Loop

end
-- ==== Proof.TableRows.lean ====
/-
  Rows put into a table and read back. The reference marks which rules do not apply to a row by writing them into row
  `id` of a table of 100000 rows, `id` the example's identifier, and reading that row again. For identifiers in range and
  distinct from each other what it reads is what it wrote.
-/
module

public import proofs.«01_k».proof.Defs
public import proofs.«01_k».proof.Proof.Gen.ReferenceIdeal
public import Idealize.ShloMosaic.Lib.Routing.OpsSet
public import Idealize.ShloMosaic.Lib.Pointwise

@[expose] public section

set_option maxRecDepth 16384

noncomputable section

namespace Cert.ReferenceIdeal.Table

open Cert.ReferenceIdeal Idealize.ShloMosaic

/-- The scatter's row of an update: the identifier of the update's row, read signed. -/
theorem start_row (k : S16384x256.Idx) (ids : IVec S16384x1 32) :
    scatter_S100000x256_S16384x1_S16384x256_1_0_0_1.start k ids 0 = (ids (ix2 (k 0) 0)).toInt := by
  unfold ScatterDims.start
  rw [dif_pos (by decide)]
  refine congrArg (fun j => (ids j).toInt) (funext fun b => ?_)
  fin_cases b <;> rfl

/-- Its window starts at column 0. -/
theorem start_col (k : S16384x256.Idx) (ids : IVec S16384x1 32) :
    scatter_S100000x256_S16384x1_S16384x256_1_0_0_1.start k ids 1 = 0 := by
  unfold ScatterDims.start
  rw [dif_neg (by decide)]

/-- Within its window an update is in the window's one row, … -/
theorem window_row (k : S16384x256.Idx) : scatter_S100000x256_S16384x1_S16384x256_1_0_0_1.window k 0 = 0 := by
  unfold ScatterDims.window
  rw [dif_neg (by decide)]

/-- … at its own column. -/
theorem window_col (k : S16384x256.Idx) : scatter_S100000x256_S16384x1_S16384x256_1_0_0_1.window k 1 = (k 1).val := by
  unfold ScatterDims.window
  rw [dif_pos (by decide)]
  rfl

/-- Update `k` lands at row `b` and column `j` exactly when its row's identifier is `b` and its column `j`. -/
theorem lands (k : S16384x256.Idx) (ids : IVec S16384x1 32) (b : Fin 100000) (j : Fin 256) :
    scatter_S100000x256_S16384x1_S16384x256_1_0_0_1.resultIdx? k ids = some (ix2 b j)
      ↔ (ids (ix2 (k 0) 0)).toInt = (b.val : Int) ∧ k 1 = j := by
  rw [Routing.resultIdx?_eq_some]
  constructor
  · intro h
    have h0 := h 0
    have h1 := h 1
    rw [start_row, window_row] at h0
    rw [start_col, window_col] at h1
    exact ⟨by simpa using h0, Fin.ext (by simpa using h1)⟩
  · rintro ⟨h0, rfl⟩ a
    fin_cases a
    · show _ + ((scatter_S100000x256_S16384x1_S16384x256_1_0_0_1.window k 0 : ℕ) : Int) = _
      rw [window_row]
      exact ((add_zero _).trans (start_row k ids)).trans h0
    · show scatter_S100000x256_S16384x1_S16384x256_1_0_0_1.start k ids 1
        + ((scatter_S100000x256_S16384x1_S16384x256_1_0_0_1.window k 1 : ℕ) : Int) = _
      rw [start_col, window_col, zero_add]
      rfl

/-- What the scatter leaves in the row of an identifier: the row written there, where the identifiers are numbers below
    100000 and distinct. -/
theorem scatter_row (x0 : IVec S100000x256 1) (ids : IVec S16384x1 32) (upd : IVec S16384x256 1)
    (id : Fin 16384 → Fin 100000) (hid : ∀ i, ids (ix2 i 0) = BitVec.ofNat 32 (id i).val) (hinj : Function.Injective id)
    (i : Fin 16384) (j : Fin 256) :
    Host.scatter scatter_S100000x256_S16384x1_S16384x256_1_0_0_1 (fun _ b => b) x0 ids upd (ix2 (id i) j) = upd (ix2 i j) := by
  have hint : ∀ i, (ids (ix2 i 0)).toInt = ((id i).val : Int) := fun i => by
    rw [hid, StableHlo.Predicate.toInt_ofNat_small _ (by have := (id i).isLt; omega)]
  refine Routing.scatter_set_hit _ x0 ids upd _ _ (fun k hk => ?_) (ix2 i j) ((lands _ ids _ _).2 ⟨hint i, rfl⟩)
  obtain ⟨h0, h1⟩ := (lands k ids _ _).1 hk
  have e : (k 0 : Fin 16384) = i := hinj (Fin.ext (Int.ofNat.inj ((hint (k 0)).symm.trans h0)))
  refine congrArg upd (funext fun a => ?_)
  fin_cases a
  · exact e
  · exact h1

/-- The row that the gather reads for an example: the row of its identifier. -/
theorem gather_row (x : IVec S100000x256 1) (ids : IVec S16384x1 32) (i : Fin 16384) (b : Fin 100000)
    (hb : ids (ix2 i 0) = BitVec.ofNat 32 b.val) (j : Fin 256) :
    Host.gather gather_S100000x256_S16384x1_S16384x256_1_0_n_n_0_1_1256 x ids (ix2 i j) = x (ix2 b j) := by
  simp only [ix2_eq_valueIdx] at hb ⊢
  exact Routing.gather_row _ rfl rfl rfl rfl rfl x ids i j b hb (by norm_num)

end Cert.ReferenceIdeal.Table

end
-- ==== Proof.Valid.lean ====
/-
  What the precondition says, read off its four arrays of bits: the examples' identifiers are table rows, no two of them
  the same, and no rule's mass is negative.
-/
module

public import proofs.«01_k».proof.Defs
public import proofs.«01_k».proof.Proof.Gen.Pre_valid
public import Idealize.ShloMosaic.Lib.Pointwise
public import Idealize.ShloMosaic.Lib.WordCmp
public import Idealize.ShloMosaic.Lib.Affine

@[expose] public section

set_option maxRecDepth 16384

noncomputable section

namespace Cert.Pre_valid.Read

open Cert.Pre_valid Idealize.ShloMosaic

variable (X : FVec Ideal S16384x129 .f32) (ms : FVec Ideal S256x9 .f32) (W : FVec Ideal S256x128 .f32) (b : FVec Ideal S256 .f32)

/-- An example's identifier: the first number of its row, as an integer word. -/
def word (i : Fin 16384) : BitVec 32 := FloatOps.fptosi 32 (X (ix2 i 0))

/-- The first array says that no identifier is negative. -/
theorem word_nonneg (h : (fn (F := Ideal) X ms W b).1 = fun _ => 1#1) (i : Fin 16384) : 0 ≤ (word X i).toInt := by
  have := congrFun h (ix1 i)
  unfold fn fn_part1 at this
  pointwise at this
  exact IntOp.cmpi_sge.1 this

/-- The second that each is below the table's number of rows. -/
theorem word_lt (h : (fn (F := Ideal) X ms W b).2.1 = fun _ => 1#1) (i : Fin 16384) : (word X i).toInt < 100000 := by
  have := congrFun h (ix1 i)
  unfold fn fn_part1 at this
  pointwise at this
  exact IntOp.cmpi_slt.1 this

/-- The third that two examples with the same identifier are the same example. -/
theorem word_injective (h : (fn (F := Ideal) X ms W b).2.2.1 = fun _ => 1#1) : Function.Injective (word X) := by
  intro i j e
  have := congrFun h (ix2 i j)
  unfold fn fn_part1 at this
  pointwise at this
  rw [show (FloatOps.fptosi 32 (X (ix2 i 0)) : BitVec 32) = FloatOps.fptosi 32 (X (ix2 j 0)) from e, IntOp.cmpi_eq_self] at this
  have hij : IntOp.ori (IntOp.cmpi .eq (BitVec.ofNat 32 i.val) (BitVec.ofNat 32 j.val)) 0#1 = 1#1 := this
  rw [show ∀ x : BitVec 1, IntOp.ori x 0#1 = x from by decide, WordCmp.cmpi_eq_ofNat_eq_one_iff (by omega) (by omega)] at hij
  exact Fin.ext hij

/-- The fourth that no mass is negative. -/
theorem mass_nonneg (h : (fn (F := Ideal) X ms W b).2.2.2 = fun _ => 1#1) (j : Fin 256) (k : Fin 8) :
    (0 : EReal) ≤ ms (ix2 j (k.castLE (by decide))) + ms (ix2 j 8) := by
  have := congrFun h (ix2 j k)
  unfold fn fn_part1 at this
  pointwise at this
  exact (WordCmp.ofBool_decide_eq_one_iff _).1 this

/-- So the identifiers are the table rows of an injective map. -/
theorem rows (h0 : (fn (F := Ideal) X ms W b).1 = fun _ => 1#1) (h1 : (fn (F := Ideal) X ms W b).2.1 = fun _ => 1#1)
    (h2 : (fn (F := Ideal) X ms W b).2.2.1 = fun _ => 1#1) :
    ∃ id : Fin 16384 → Fin 100000, (∀ i, word X i = BitVec.ofNat 32 (id i).val) ∧ Function.Injective id := by
  have lt : ∀ i, (word X i).toNat < 100000 := fun i => by
    have := word_nonneg X ms W b h0 i
    have := word_lt X ms W b h1 i
    rw [BitVec.toInt_eq_toNat_cond] at *
    split at * <;> omega
  exact ⟨fun i => ⟨(word X i).toNat, lt i⟩, fun i => (BitVec.ofNat_toNat _ _).symm ▸ (BitVec.setWidth_eq _).symm,
    fun i j e => word_injective X ms W b h2 (BitVec.eq_of_toNat_eq (Fin.mk.inj e))⟩

end Cert.Pre_valid.Read

end
-- ==== Proof.ReferenceValue.lean ====
/-
  The reference's result, at an index. Before its loop it marks in a table, at the row of each example's identifier, the
  rules whose score on the example is not positive, and reads the row back; a marked rule's factor is 1, another's its
  mass. When the identifiers are distinct table rows, an example reads back its own marks, so the product is taken over
  the rules of positive score.
-/
module

public import proofs.«01_k».proof.Proof.ReferenceLoop
public import proofs.«01_k».proof.Proof.TableRows
public import proofs.«01_k».proof.Proof.Valid
public import Idealize.ShloMosaic.Lib.ReduceAll
public import Idealize.ShloMosaic.Lib.WordCmp

@[expose] public section

set_option maxRecDepth 16384

noncomputable section

namespace Cert.ReferenceIdeal.Entry

open Cert.ReferenceIdeal Cert.ReferenceIdeal.Gen Cert.ReferenceIdeal.Value Idealize.ShloMosaic Idealize.ShloMosaic.StableHlo Idealize.SL.Sem Cert.Shares

variable (V : Valuation τ sig (Elt Ideal))

/-- The inputs, one row per example. -/
abbrev inputs : Vec Ideal S16384x129 .f32 := V (Proc.devRef .tc main_arg0)
/-- The masses, one row per rule. -/
abbrev masses : Vec Ideal S256x9 .f32 := V (Proc.devRef .tc main_arg1)
/-- The rules' weights. -/
abbrev weights : Vec Ideal S256x128 .f32 := V (Proc.devRef .tc main_arg2)
/-- The rules' offsets. -/
abbrev offsets : Vec Ideal S256 .f32 := V (Proc.devRef .tc main_arg3)

/-- The score of rule `j` on example `i`. -/
def rule (i : Fin 16384) (j : Fin 256) : EReal :=
  (∑ d : Fin 128, inputs V (ix2 i d.succ) * weights V (ix2 j d)) + offsets V (ix1 j)

/-- A rule's mass for a class, the uncertainty added. -/
def mass (j : Fin 256) (k : Fin 8) : EReal := masses V (ix2 j (k.castLE (by decide))) + masses V (ix2 j 8)

/-- An example's identifier as the program reads it. -/
def word (i : Fin 16384) : BitVec 32 := Pre_valid.Read.word (inputs V) i

/-- The identifiers as words. -/
theorem words_at (i : Fin 16384) : after hostOps0 V (Proc.devRef .tc main_v3) (ix1 i) = word V i := by
  after_reads_at
  rfl

/-- A word that is a table row's number is not wrapped. -/
theorem wrap_row {w : BitVec 32} {a : Fin 100000} (h : w = BitVec.ofNat 32 a.val) (x : BitVec 32) :
    Scalar.select (IntOp.cmpi .slt w 0#32) x w = BitVec.ofNat 32 a.val := by
  subst h
  exact Routing.wrap_of_lt _ _ (by rw [BitVec.toNat_ofNat]; omega)

variable (id : Fin 16384 → Fin 100000)

/-- The table after the marks: at the row of an example's identifier, which rules' scores are not positive. -/
theorem table_at (hid : ∀ i, word V i = BitVec.ofNat 32 (id i).val) (hinj : Function.Injective id) (i : Fin 16384) (j : Fin 256) :
    after hostOps0 V (Proc.devRef .tc main_v18) (ix2 (id i) j) = BitVec.ofBool (decide (rule V i j ≤ 0)) := by
  after_reads_at
  refine (Table.scatter_row _ _ _ id (fun i => ?_) hinj i j).trans ?_
  · pointwise
    exact wrap_row (hid i) _
  · pointwise
    simp only [rule, show ∀ d : Fin 128, (⟨1 + d.val, by omega⟩ : Fin 129) = d.succ from fun d => Fin.ext (Nat.add_comm 1 d.val)]
    rfl

/-- A table row's number passes the program's test that it is one. -/
theorem row_in_table (a : Fin 100000) : Finset.fold IntOp.andi (1#1) (fun _ : Fin 1 =>
    IntOp.andi (IntOp.cmpi .sge (BitVec.ofNat 32 a.val) 0#32) (IntOp.cmpi .sle (BitVec.ofNat 32 a.val) 99999#32)) Finset.univ = 1#1 := by
  have h0 : IntOp.cmpi .sge (BitVec.ofNat 32 a.val) 0#32 = 1#1 :=
    (WordCmp.cmpi_sge_ofNat_eq_one_iff (by omega) (by omega)).2 (Nat.zero_le _)
  have h1 : IntOp.cmpi .sle (BitVec.ofNat 32 a.val) 99999#32 = 1#1 :=
    (WordCmp.cmpi_sle_ofNat_eq_one_iff (by omega) (by omega)).2 (by omega)
  rw [h0, h1]
  rfl

/-- What an example reads back: the row of its identifier. -/
theorem read_at (hid : ∀ i, V (Proc.devRef .tc main_v3) (ix1 i) = BitVec.ofNat 32 (id i).val) (i : Fin 16384) (j : Fin 256) :
    after hostOps0_1 V (Proc.devRef .tc main_v19) (ix2 i j) = V (Proc.devRef .tc main_v18) (ix2 (id i) j) := by
  after_reads_at
  rw [wrap_row (hid i), row_in_table (id i)]
  refine (if_pos rfl).trans (Table.gather_row _ _ i (id i) ?_ j)
  pointwise
  exact wrap_row (hid i) _

/-- The factor of rule `j` for class `k`, from the mark and the mass. -/
theorem factor_at (i : Fin 16384) (j : Fin 256) (k : Fin 8) :
    after hostOps0_4 (after hostOps0_3 (after hostOps0_2 V)) (Proc.devRef .tc main_v29_0) (ix3 i j k)
      = Scalar.select (V (Proc.devRef .tc main_v19) (ix2 i j)) (1 : EReal) (mass V j k) := by
  after_reads_at
  rw [id_eq]
  pointwise
  rfl

/-- The loop starts at rule 0. -/
theorem counter_entry (m : (ℓ : Loc nD τ sig) → Buf (Elt Ideal) ℓ) (c : Dev nD) :
    Loop.counter (entryContents preI m c) = constantI S_ 32 (BitVec.ofNat 32 0) := by
  simp only [Loop.counter, entryContents, afterL_cons, afterL_nil]
  after_reads_simp
  rfl

/-- The product starts at 1. -/
theorem product_entry (m : (ℓ : Loc nD τ sig) → Buf (Elt Ideal) ℓ) (c : Dev nD) (i : Fin 16384) (k : Fin 8) :
    Loop.soFar (entryContents preI m c) (ix2 i k) = (1 : EReal) := by
  simp only [Loop.soFar, entryContents, afterL_cons, afterL_nil]
  after_reads_at
  rw [id_eq]
  pointwise
  try rfl

/-- The factors at the loop's entry: a mass where the rule's score is positive, 1 elsewhere. -/
theorem factors_entry (m : (ℓ : Loc nD τ sig) → Buf (Elt Ideal) ℓ) (c : Dev nD)
    (hid : ∀ i, word (launchContents m c) i = BitVec.ofNat 32 (id i).val) (hinj : Function.Injective id)
    (i : Fin 16384) (j : Fin 256) (k : Fin 8) :
    Loop.factors (entryContents preI m c) (ix3 i j k)
      = if 0 < rule (launchContents m c) i j then mass (launchContents m c) j k else (1 : EReal) := by
  simp only [Loop.factors, entryContents, afterL_cons, afterL_nil]
  generalize launchContents m c = V at hid ⊢
  have hmass : mass (after hostOps0_1 (after hostOps0 V)) j k = mass V j k := by
    unfold mass masses
    rw [keep_main_arg1_hostOps0_1, keep_main_arg1_hostOps0]
  rw [factor_at, hmass, read_at _ id (fun i => (words_at V i).trans (hid i)), table_at V id hid hinj, WordCmp.select_decide]
  by_cases h : 0 < rule V i j
  · rw [if_pos h, if_neg (not_le.2 h)]
  · rw [if_neg h, if_pos (not_lt.1 h)]

/-- The reference's result: the shares of the evidence of the rules of positive score. -/
theorem result (m : (ℓ : Loc nD τ sig) → Buf (Elt Ideal) ℓ) (c : Dev nD)
    (hid : ∀ i, word (launchContents m c) i = BitVec.ofNat 32 (id i).val) (hinj : Function.Injective id)
    (i : Fin 16384) (k : Fin 8) :
    out_main_v38 (STEP^[256] (entryContents preI m c)) (ix2 i k)
      = share (fun k' => evidence (rule (launchContents m c) i) (fun j => mass (launchContents m c) j k')) k := by
  rw [Loop.result_at _ (counter_entry m c) (product_entry m c)]
  exact share_congr (fun k' => Finset.prod_congr rfl fun j _ => factors_entry id m c hid hinj i j k') k

end Cert.ReferenceIdeal.Entry

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_valid
public import proofs.«01_k».proof.Proof.KernelValue
public import proofs.«01_k».proof.Proof.ReferenceValue
public import proofs.«01_k».proof.Proof.Valid
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments end unchanged and every semaphore counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- On arguments that meet the precondition, the array that the reference ends with is the kernel's: the logarithms of
    the masses, summed over the rules of positive score and put under the exponential, are the product of the masses. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : letI := Cert.Pre_valid.Gen.facts; Cert.Pre_KernelIdeal_valid m) (c : Dev Cert.KernelIdeal.nD)
    (h0 : m' ((c.tc : Thread Cert.ReferenceIdeal.nD Cert.ReferenceIdeal.τ).loc Cert.ReferenceIdeal.main_arg0) = Cert.KernelIdeal.Result.inputs m c)
    (h1 : m' ((c.tc : Thread Cert.ReferenceIdeal.nD Cert.ReferenceIdeal.τ).loc Cert.ReferenceIdeal.main_arg1) = Cert.KernelIdeal.Result.masses m c)
    (h2 : m' ((c.tc : Thread Cert.ReferenceIdeal.nD Cert.ReferenceIdeal.τ).loc Cert.ReferenceIdeal.main_arg2) = Cert.KernelIdeal.Result.weights m c)
    (h3 : m' ((c.tc : Thread Cert.ReferenceIdeal.nD Cert.ReferenceIdeal.τ).loc Cert.ReferenceIdeal.main_arg3) = Cert.KernelIdeal.Result.offsets m c) :
    Cert.ReferenceIdeal.Value.out_main_v38 (Cert.ReferenceIdeal.Value.STEP^[256] (StableHlo.entryContents Cert.ReferenceIdeal.Value.preI m' c))
      = fun y => Cert.KernelIdeal.Result.value m c (y 0) (y 1) := by
  obtain ⟨p0, p1, p2, p3⟩ := hpre c
  obtain ⟨id, hid, hinj⟩ := Cert.Pre_valid.Read.rows _ _ _ _ p0 p1 p2
  have e0 : Cert.ReferenceIdeal.Entry.inputs (StableHlo.launchContents m' c) = Cert.KernelIdeal.Result.inputs m c := h0
  have e1 : Cert.ReferenceIdeal.Entry.masses (StableHlo.launchContents m' c) = Cert.KernelIdeal.Result.masses m c := h1
  have e2 : Cert.ReferenceIdeal.Entry.weights (StableHlo.launchContents m' c) = Cert.KernelIdeal.Result.weights m c := h2
  have e3 : Cert.ReferenceIdeal.Entry.offsets (StableHlo.launchContents m' c) = Cert.KernelIdeal.Result.offsets m c := h3
  have hr : ∀ i j, Cert.ReferenceIdeal.Entry.rule (StableHlo.launchContents m' c) i j = Cert.KernelIdeal.Result.rule m c i j := fun i j => by
    unfold Cert.ReferenceIdeal.Entry.rule Cert.KernelIdeal.Result.rule
    rw [e0, e2, e3]
  have hm : ∀ j k, Cert.ReferenceIdeal.Entry.mass (StableHlo.launchContents m' c) j k = Cert.KernelIdeal.Result.mass m c j k := fun j k => by
    unfold Cert.ReferenceIdeal.Entry.mass Cert.KernelIdeal.Result.mass
    rw [e1]
  funext y
  idx_vars y
  refine (Cert.ReferenceIdeal.Entry.result id m' c (fun i => ?_) hinj y0 y1).trans (Cert.Shares.share_congr (fun k => ?_) y1)
  · unfold Cert.ReferenceIdeal.Entry.word
    rw [e0]
    exact hid i
  · refine (congrArg₂ Cert.Shares.evidence (funext fun j => hr y0 j) (funext fun j => hm j k)).trans
      (Cert.Shares.exp_evidence _ (fun j => Cert.KernelIdeal.Result.mass m c j k) (fun j => ?_)).symm
    exact Cert.Pre_valid.Read.mass_nonneg _ _ _ _ p3 j k

/-- The five claims. -/
theorem claim : Cert.Claim := ⟨Cert.Kernel.Gen.facts, Cert.KernelIdeal.Gen.facts, Cert.ReferenceIdeal.Gen.facts, Cert.Pre_valid.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial,
  fun m g m' g' hpre hargs => ⟨fun c y => Cert.KernelIdeal.Result.value m c (y 0) (y 1), Cert.KernelIdeal.Result.run m g,
    (θ_run Cert.ReferenceIdeal.defs _ _).mono (fun r h c =>
      ⟨(h c).1.trans (results_agree m m' hpre c (hargs c).1 (hargs c).2.1 (hargs c).2.2.1 (hargs c).2.2.2), (h c).2⟩)
      (Cert.ReferenceIdeal.Value.run (F := Ideal) m' g')⟩⟩

end Cert.Proof

end
